-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_complete_graph [hPre_complete_graph : Cert.Pre_complete_graph.Facts] (m : (ℓ : Loc Cert.KernelIdeal.nD Cert.KernelIdeal.τ Cert.KernelIdeal.sig) → Buf (Elt Ideal) ℓ) : Prop :=
  ∀ c : Dev Cert.KernelIdeal.nD,
    (Cert.Pre_complete_graph.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_complete_graph [hPre_complete_graph : Cert.Pre_complete_graph.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_complete_graph.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_complete_graph [hKernelIdeal : Cert.KernelIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_complete_graph m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_complete_graph [hReferenceIdeal : Cert.ReferenceIdeal.Facts] [hPre_complete_graph : Cert.Pre_complete_graph.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_complete_graph m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_complete_graph [hKernelIdeal : Cert.KernelIdeal.Facts] [hReferenceIdeal : Cert.ReferenceIdeal.Facts] [hPre_complete_graph : Cert.Pre_complete_graph.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_complete_graph m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_complete_graph : Cert.Pre_complete_graph.Facts),
    quiescent_Kernel (hKernel := hKernel)
    ∧ quiescent_KernelIdeal (hKernelIdeal := hKernelIdeal)
    ∧ quiescent_KernelIdeal_pre_complete_graph (hKernelIdeal := hKernelIdeal) (hPre_complete_graph := hPre_complete_graph)
    ∧ quiescent_ReferenceIdeal (hReferenceIdeal := hReferenceIdeal)
    ∧ quiescent_ReferenceIdeal_pre_complete_graph (hReferenceIdeal := hReferenceIdeal) (hPre_complete_graph := hPre_complete_graph)
    ∧ preserves_Kernel_KernelIdeal
    ∧ algebraic_KernelIdeal_ReferenceIdeal_pre_complete_graph (hKernelIdeal := hKernelIdeal) (hReferenceIdeal := hReferenceIdeal) (hPre_complete_graph := hPre_complete_graph)
-- ==== Pre_complete_graph.lean ====
abbrev S16x32768 : Shape := ⟨2, ![16, 32768]⟩
abbrev S2x16384 : Shape := ⟨2, ![2, 16384]⟩
abbrev S256x256 : Shape := ⟨2, ![256, 256]⟩
abbrev S256 : Shape := ⟨1, ![256]⟩
abbrev S256x1 : Shape := ⟨2, ![256, 1]⟩
abbrev S1 : Shape := ⟨1, ![1]⟩
abbrev S128 : Shape := ⟨1, ![128]⟩
abbrev S128x128 : Shape := ⟨2, ![128, 128]⟩
abbrev S16384 : Shape := ⟨1, ![16384]⟩
abbrev S1x128 : Shape := ⟨2, ![1, 128]⟩
abbrev S1x16384 : Shape := ⟨2, ![1, 16384]⟩
abbrev S_ : Shape := ⟨0, ![]⟩

class Facts : Prop where
  bcast_S128_S128x128_0 : S128.BroadcastsInDim S128x128 (![0] : Fin 1 → Fin S128x128.rank)
  shapeCasts_S128x128_S16384 : S128x128.ShapeCasts S16384
  shapeCasts_S128_S1x128 : S128.ShapeCasts S1x128
  bcast_S1x128_S128x128_0_1 : S1x128.BroadcastsInDim S128x128 (![0, 1] : Fin 2 → Fin S128x128.rank)
  bcast_S16384_S1x16384_1 : S16384.BroadcastsInDim S1x16384 (![1] : Fin 1 → Fin S1x16384.rank)
  concatenates_S1x16384_S1x16384_S2x16384_d0 : Shape.Concatenates [S1x16384, S1x16384] S2x16384 0
  reducesTo_S2x16384_S_d0_1 : S2x16384.ReducesTo [0, 1] S_
  h_S_ : 0 < S_.numel

variable [Facts]

def fn {F : FTy → Type} [FloatOps F] (main_arg0 : FVec F S16x32768 .f32) (main_arg1 : IVec S2x16384 32) (main_arg2 : FVec F S256x256 .f32) (main_arg3 : FVec F S256x256 .f32) (main_arg4 : FVec F S256 .f32) (main_arg5 : FVec F S256 .f32) (main_arg6 : FVec F S256x1 .f32) (main_arg7 : FVec F S1 .f32) : IVec S_ 1 :=
  let main_v0 : IVec S128 32 := iotaInDim S128 32 0
  let main_v1 : IVec S128x128 32 := broadcastInDim S128x128 ![0] bcast_S128_S128x128_0 main_v0
  let main_v2 : IVec S16384 32 := shapeCast S16384 main_v1 shapeCasts_S128x128_S16384
  let main_v3 : IVec S128 32 := iotaInDim S128 32 0
  let main_v4 : IVec S1x128 32 := shapeCast S1x128 main_v3 shapeCasts_S128_S1x128
  let main_v5 : IVec S128x128 32 := broadcastInDim S128x128 ![0, 1] bcast_S1x128_S128x128_0_1 main_v4
  let main_v6 : IVec S16384 32 := shapeCast S16384 main_v5 shapeCasts_S128x128_S16384
  let main_v7 : IVec S1x16384 32 := broadcastInDim S1x16384 ![1] bcast_S16384_S1x16384_1 main_v2
  let main_v8 : IVec S1x16384 32 := broadcastInDim S1x16384 ![1] bcast_S16384_S1x16384_1 main_v6
  let main_v9 : IVec S2x16384 32 := (fun a b => concatenate S2x16384 0 [⟨S1x16384, a⟩, ⟨S1x16384, b⟩] concatenates_S1x16384_S1x16384_S2x16384_d0) main_v7 main_v8
  let main_v10 : IVec S2x16384 1 := cmpi .eq main_arg1 main_v9
  let main_c : IVec S_ 1 := constantI S_ 1 1#1
  let main_v11 : IVec S_ 1 := (fun x v => Host.reduce IntOp.andi x v reducesTo_S2x16384_S_d0_1 h_S_) main_v10 main_c
  main_v11
-- ==== Kernel.lean ====
abbrev S16x32768 : Shape := ⟨2, ![16, 32768]⟩
abbrev S2x16384 : Shape := ⟨2, ![2, 16384]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x128 : Shape := ⟨2, ![1, 128]⟩
abbrev S8x32768 : Shape := ⟨2, ![8, 32768]⟩
abbrev S1x32768 : Shape := ⟨2, ![1, 32768]⟩
abbrev S128x256 : Shape := ⟨2, ![128, 256]⟩
abbrev S8x256 : Shape := ⟨2, ![8, 256]⟩
abbrev S8x1x256 : Shape := ⟨3, ![8, 1, 256]⟩
abbrev S1x128x256 : Shape := ⟨3, ![1, 128, 256]⟩
abbrev S8x128x256 : Shape := ⟨3, ![8, 128, 256]⟩
abbrev S1024x256 : Shape := ⟨2, ![1024, 256]⟩
abbrev S1024x1 : Shape := ⟨2, ![1024, 1]⟩
abbrev S8x128 : Shape := ⟨2, ![8, 128]⟩
abbrev S128x128 : Shape := ⟨2, ![128, 128]⟩
abbrev S128 : Shape := ⟨1, ![128]⟩
abbrev S128x1 : Shape := ⟨2, ![128, 1]⟩
abbrev S1x256 : Shape := ⟨2, ![1, 256]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S16x32768, .f32⟩
  | .hbm, ⟨1, _⟩ => ⟨S2x16384, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S1x128, .f32⟩
  | .local _ .vmem, ⟨0, _⟩ => ⟨S8x32768, .f32⟩
  | .local _ .vmem, ⟨1, _⟩ => ⟨S256x256, .f32⟩
  | .local _ .vmem, ⟨2, _⟩ => ⟨S256x256, .f32⟩
  | .local _ .vmem, ⟨3, _⟩ => ⟨S256, .f32⟩
  | .local _ .vmem, ⟨4, _⟩ => ⟨S256, .f32⟩
  | .local _ .vmem, ⟨5, _⟩ => ⟨S256x1, .f32⟩
  | .local _ .vmem, ⟨6, _⟩ => ⟨S1, .f32⟩
  | .local _ .vmem, ⟨7, _⟩ => ⟨S1x128, .f32⟩
  | .local _ .vmem, ⟨8, _⟩ => ⟨S256x1, .f32⟩
  | _, _ => ⟨S16x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x32768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x32768 : Shape := ⟨2, ![16, 32768]⟩
abbrev S2x16384 : Shape := ⟨2, ![2, 16384]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x16384 : Shape := ⟨2, ![1, 16384]⟩
abbrev S16384 : Shape := ⟨1, ![16384]⟩
abbrev S16x128x256 : Shape := ⟨3, ![16, 128, 256]⟩
abbrev S_ : Shape := ⟨0, ![]⟩
abbrev S16384x1 : Shape := ⟨2, ![16384, 1]⟩
abbrev S16x16384x256 : Shape := ⟨3, ![16, 16384, 256]⟩
abbrev S16x16384 : Shape := ⟨2, ![16, 16384]⟩
abbrev S128 : Shape := ⟨1, ![128]⟩
abbrev S128x1 : Shape := ⟨2, ![128, 1]⟩
abbrev S128x16384 : Shape := ⟨2, ![128, 16384]⟩
abbrev S16x1x16384 : Shape := ⟨3, ![16, 1, 16384]⟩
abbrev S16x128x16384 : Shape := ⟨3, ![16, 128, 16384]⟩
abbrev S16x128 : Shape := ⟨2, ![16, 128]⟩
abbrev S16x16384x1 : Shape := ⟨3, ![16, 16384, 1]⟩
abbrev S128x256 : Shape := ⟨2, ![128, 256]⟩
abbrev S1x256 : Shape := ⟨2, ![1, 256]⟩
abbrev S1x1x256 : Shape := ⟨3, ![1, 1, 256]⟩
abbrev S16x128x1 : Shape := ⟨3, ![16, 128, 1]⟩
abbrev S1x1 : Shape := ⟨2, ![1, 1]⟩
abbrev S1x1x1 : Shape := ⟨3, ![1, 1, 1]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S16x32768, .f32⟩
  | .hbm, ⟨1, _⟩ => ⟨S2x16384, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S1x16384, .i32⟩
  | .hbm, ⟨9, _⟩ => ⟨S16384, .i32⟩
  | .hbm, ⟨10, _⟩ => ⟨S1x16384, .i32⟩
  | .hbm, ⟨11, _⟩ => ⟨S16384, .i32⟩
  | .hbm, ⟨12, _⟩ => ⟨S16x128x256, .f32⟩
  | .hbm, ⟨13, _⟩ => ⟨S16x128x256, .f32⟩
  | .hbm, ⟨14, _⟩ => ⟨S16x128x256, .f32⟩
  | .hbm, ⟨15, _⟩ => ⟨S_, .i32⟩
  | .hbm, ⟨16, _⟩ => ⟨S16384, .i32⟩
  | .hbm, ⟨17, _⟩ => ⟨S16384, .i1⟩
  | .hbm, ⟨18, _⟩ => ⟨S_, .i32⟩
  | .hbm, ⟨19, _⟩ => ⟨S16384, .i32⟩
  | .hbm, ⟨20, _⟩ => ⟨S16384, .i32⟩
  | .hbm, ⟨21, _⟩ => ⟨S16384, .i32⟩
  | .hbm, ⟨22, _⟩ => ⟨S16384x1, .i32⟩
  | .hbm, ⟨23, _⟩ => ⟨S16x16384x256, .f32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S16x16384x256, .f32⟩
  | .hbm, ⟨33, _⟩ => ⟨S16x16384x256, .f32⟩
  | .hbm, ⟨34, _⟩ => ⟨S_, .f32⟩
  | .hbm, ⟨35, _⟩ => ⟨S_, .f32⟩
  | .hbm, ⟨36, _⟩ => ⟨S16x16384x256, .f32⟩
  | .hbm, ⟨37, _⟩ => ⟨S16x16384x256, .i1⟩
  | .hbm, ⟨38, _⟩ => ⟨S_, .f32⟩
  | .hbm, ⟨39, _⟩ => ⟨S16x16384x256, .f32⟩
  | .hbm, ⟨40, _⟩ => ⟨S16x16384x256, .f32⟩
  | .hbm, ⟨41, _⟩ => ⟨S16x16384x256, .f32⟩
  | .hbm, ⟨42, _⟩ => ⟨S16x16384, .f32⟩
  | .hbm, ⟨43, _⟩ => ⟨S1x16384, .i32⟩
  | .hbm, ⟨44, _⟩ => ⟨S128, .i32⟩
  | .hbm, ⟨45, _⟩ => ⟨S128x1, .i32⟩
  | .hbm, ⟨46, _⟩ => ⟨S128x16384, .i32⟩
  | .hbm, ⟨47, _⟩ => ⟨S128x16384, .i32⟩
  | .hbm, ⟨48, _⟩ => ⟨S128x16384, .i1⟩
  | .hbm, ⟨49, _⟩ => ⟨S16x1x16384, .f32⟩
  | .hbm, ⟨50, _⟩ => ⟨S_, .f32⟩
  | .hbm, ⟨51, _⟩ => ⟨S_, .f32⟩
  | .hbm, ⟨52, _⟩ => ⟨S16x128x16384, .f32⟩
  | .hbm, ⟨53, _⟩ => ⟨S128x16384, .f32⟩
  | .hbm, ⟨54, _⟩ => ⟨S16x128x16384, .i1⟩
  | .hbm, ⟨55, _⟩ => ⟨S16x128x16384, .f32⟩
  | .hbm, ⟨56, _⟩ => ⟨S16x128x16384, .f32⟩
  | .hbm, ⟨57, _⟩ => ⟨S_, .f32⟩
  | .hbm, ⟨58, _⟩ => ⟨S16x128, .f32⟩
  | .hbm, ⟨59, _⟩ => ⟨S_, .i32⟩
  | .hbm, ⟨60, _⟩ => ⟨S16384, .i32⟩
  | .hbm, ⟨61, _⟩ => ⟨S16384, .i1⟩
  | .hbm, ⟨62, _⟩ => ⟨S_, .i32⟩
  | .hbm, ⟨63, _⟩ => ⟨S16384, .i32⟩
  | .hbm, ⟨64, _⟩ => ⟨S16384, .i32⟩
  | .hbm, ⟨65, _⟩ => ⟨S16384, .i32⟩
  | .hbm, ⟨66, _⟩ => ⟨S16384x1, .i32⟩
  | .hbm, ⟨67, _⟩ => ⟨S16x16384, .f32⟩
  | .hbm, ⟨68, _⟩ => ⟨S16x16384, .f32⟩
  | .hbm, ⟨69, _⟩ => ⟨S16x16384, .f32⟩
  | .hbm, ⟨70, _⟩ => ⟨S_, .f32⟩
  | .hbm, ⟨71, _⟩ => ⟨S128, .f32⟩
  | .hbm, ⟨72, _⟩ => ⟨S16384x1, .i32⟩
  | .hbm, ⟨73, _⟩ => ⟨S16x128, .f32⟩
  | .hbm, ⟨74, _⟩ => ⟨S16x128, .f32⟩
  | .hbm, ⟨75, _⟩ => ⟨S_, .i32⟩
  | .hbm, ⟨76, _⟩ => ⟨S16384, .i32⟩
  | .hbm, ⟨77, _⟩ => ⟨S16384, .i1⟩
  | .hbm, ⟨78, _⟩ => ⟨S_, .i32⟩
  | .hbm, ⟨79, _⟩ => ⟨S16384, .i32⟩
  | .hbm, ⟨80, _⟩ => ⟨S16384, .i32⟩
  | .hbm, ⟨81, _⟩ => ⟨S16384, .i32⟩
  | .hbm, ⟨82, _⟩ => ⟨S16384x1, .i32⟩
  | .hbm, ⟨83, _⟩ => ⟨S16x16384, .f32⟩
  | .hbm, ⟨84, _⟩ => ⟨S16x16384, .f32⟩
  | .hbm, ⟨85, _⟩ => ⟨S16x16384x1, .f32⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S16x16384x256, .f32⟩
  | .hbm, ⟨95, _⟩ => ⟨S16x16384x256, .f32⟩
  | .hbm, ⟨96, _⟩ => ⟨S16x16384x256, .f32⟩
  | .hbm, ⟨97, _⟩ => ⟨S_, .f32⟩
  | .hbm, ⟨98, _⟩ => ⟨S128x256, .f32⟩
  | .hbm, ⟨99, _⟩ => ⟨S16384x1, .i32⟩
  | .hbm, ⟨100, _⟩ => ⟨S16x128x256, .f32⟩
  | .hbm, ⟨101, _⟩ => ⟨S16x128x256, .f32⟩
  | .hbm, ⟨102, _⟩ => ⟨S1x256, .f32⟩
  | .hbm, ⟨103, _⟩ => ⟨S1x1x256, .f32⟩
  | .hbm, ⟨104, _⟩ => ⟨S16x128x256, .f32⟩
  | .hbm, ⟨105, _⟩ => ⟨S16x128x256, .f32⟩
  | .hbm, ⟨106, _⟩ => ⟨S16x128x1, .f32⟩
  | .hbm, ⟨107, _⟩ => ⟨S1x1, .f32⟩
  | .hbm, ⟨108, _⟩ => ⟨S1x1x1, .f32⟩
  | .hbm, ⟨109, _⟩ => ⟨S16x128x1, .f32⟩
  | .hbm, ⟨110, _⟩ => ⟨S16x128x1, .f32⟩
  | .hbm, ⟨111, _⟩ => ⟨S16x128, .f32⟩
  | .hbm, ⟨112, _⟩ => ⟨S1x128, .f32⟩
  | .hbm, ⟨113, _⟩ => ⟨S128, .f32⟩
  | .hbm, ⟨114, _⟩ => ⟨S1x128, .f32⟩
  | _, _ => ⟨S16x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_call0_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_c_5 : Ref sig .tc := ⟨.hbm, 59, rfl⟩
abbrev main_v33 : Ref sig .tc := ⟨.hbm, 60, rfl⟩
abbrev main_v34 : Ref sig .tc := ⟨.hbm, 61, rfl⟩
abbrev main_c_6 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_7 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_c_8 : Ref sig .tc := ⟨.hbm, 75, rfl⟩
abbrev main_v46 : Ref sig .tc := ⟨.hbm, 76, rfl⟩
abbrev main_v47 : Ref sig .tc := ⟨.hbm, 77, rfl⟩
abbrev main_c_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_c_10 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩

abbrev nD : Nat := 1
abbrev τ : Topo := Topo.v7x

variable {F : FTy → Type} [FloatOps F]
-- ==== Proof.Spec.lean ====
/- The mathematics both programs are shown to compute, over the extended reals: one graph attention layer on a complete graph of
   128 nodes, followed by a linear map of every node's 256 features to one number. Nothing here names either program. -/
module

public import Idealize.ShloMosaic.PureOps.Ideal
public import Idealize.ShloMosaic.PureOps.Ideal.Laws

@[expose] public section

noncomputable section

namespace Cert.Attention

open Idealize.ShloMosaic

/-- The slope of the leaky rectifier on negative arguments: the single-precision number nearest to one fifth. -/
def slope : EReal := Ideal.ofBits .f32 0x3E4CCCCD#32

/-- A node's projected features: node `n`'s row of `x` times column `d` of `W`. -/
def project (x : Fin 128 → Fin 256 → EReal) (W : Fin 256 → Fin 256 → EReal) (n : Fin 128) (d : Fin 256) : EReal :=
  ∑ k : Fin 256, x n k * W k d

/-- The leaky rectifier as a maximum. -/
def leaky (t : EReal) : EReal := max t (slope * t)

/-- The attention score of the edge from source `j` to target `i`, from the projected features `xl` of sources and `xr` of
    targets. -/
def score (xl xr : Fin 128 → Fin 256 → EReal) (att : Fin 256 → EReal) (i j : Fin 128) : EReal :=
  ∑ d : Fin 256, leaky (xr i d + xl j d) * att d

/-- The greatest score of a row. -/
def rowMax (e : Fin 128 → Fin 128 → EReal) (i : Fin 128) : EReal := Finset.univ.fold max ⊥ (e i)

/-- The exponential of a score less its row's greatest score. -/
def weight (e : Fin 128 → Fin 128 → EReal) (i j : Fin 128) : EReal := Ideal.exp (e i j - rowMax e i)

/-- A row's softmax: the weights divided by their sum. -/
def softmax (e : Fin 128 → Fin 128 → EReal) (i j : Fin 128) : EReal :=
  Ideal.div (weight e i j) (∑ k : Fin 128, weight e i k)

/-- A target's new features: the sources' projected features averaged by the row's softmax, and the bias. -/
def mixed (e : Fin 128 → Fin 128 → EReal) (xl : Fin 128 → Fin 256 → EReal) (b : Fin 256 → EReal) (i : Fin 128) (d : Fin 256) : EReal :=
  (∑ j : Fin 128, softmax e i j * xl j d) + b d

/-- The number the linear map makes of a target's new features. -/
def readout (h : Fin 128 → Fin 256 → EReal) (wf : Fin 256 → EReal) (bf : EReal) (i : Fin 128) : EReal :=
  (∑ d : Fin 256, wf d * h i d) + bf

/-- The whole layer: from the features `x` of the nodes, the two projections, the attention vector, the bias and the linear map. -/
def layer (x : Fin 128 → Fin 256 → EReal) (Wl Wr : Fin 256 → Fin 256 → EReal) (att b wf : Fin 256 → EReal) (bf : EReal) :
    Fin 128 → EReal :=
  readout (mixed (score (project x Wl) (project x Wr) att) (project x Wl) b) wf bf

/-- The slope is a number between 0 and 1. -/
theorem slope_eq : slope = (((13421773 : ℝ) / 67108864 : ℝ) : EReal) := by
  unfold slope
  simp [Ideal.ofBits, Ideal.ieee, -EReal.coe_mul]
  norm_num

/-- The word a maximum starts from is minus infinity. -/
theorem negInfinity : Ideal.ofBits .f32 0xFF800000#32 = ⊥ := by
  simp [Ideal.ofBits, Ideal.ieee]

/-- The slope is not negative. -/
theorem slope_nonneg : 0 ≤ slope := by
  rw [slope_eq]; exact_mod_cast by norm_num

/-- The slope is at most 1. -/
theorem slope_le_one : slope ≤ 1 := by
  rw [slope_eq]; exact_mod_cast by norm_num

/-- The rectifier as a case distinction — the argument where it is not negative, the slope times it elsewhere — is the maximum
    of the two, because the slope lies between 0 and 1; at the infinities too. -/
theorem leaky_cases (t : EReal) : (if 0 ≤ t then t else slope * t) = leaky t := by
  unfold leaky
  split
  · next h =>
    refine (max_eq_left ?_).symm
    calc slope * t ≤ 1 * t := mul_le_mul_of_nonneg_right slope_le_one h
      _ = t := one_mul t
  · next h =>
    refine (max_eq_right ?_).symm
    have h' : 0 ≤ -t := by
      rw [EReal.neg_nonneg]; exact (not_le.mp h).le
    have : slope * -t ≤ 1 * -t := mul_le_mul_of_nonneg_right slope_le_one h'
    rw [one_mul, mul_neg] at this
    exact EReal.neg_le_neg_iff.mp this

end Cert.Attention
-- ==== Proof.Result.lean ====
/- The array both programs are shown to return, as a function of their argument arrays. -/
module

public import proofs.«01_k».proof.Proof.Spec
public import Idealize.ShloMosaic.Lib.Pointwise

@[expose] public section

noncomputable section

namespace Cert.Attention

open Idealize.ShloMosaic

/-- A rank-2 array as a function of its two coordinates. -/
abbrev mat {a b : Nat} {α : Type} (v : (⟨2, ![a, b]⟩ : Shape).Idx → α) : Fin a → Fin b → α := fun i j => v (ix2 i j)

/-- The features of the last of the sixteen graphs, as the inputs' last row holds them: node after node, 256 to a node. -/
abbrev features (x : (⟨2, ![16, 32768]⟩ : Shape).Idx → EReal) (n : Fin 128) (k : Fin 256) : EReal :=
  x (ix2 15 ⟨n.val * 256 + k.val, by omega⟩)

/-- The layer of the last graph as a one-row array, from the programs' arguments. -/
def result (x : (⟨2, ![16, 32768]⟩ : Shape).Idx → EReal) (Wl Wr : (⟨2, ![256, 256]⟩ : Shape).Idx → EReal)
    (att b : (⟨1, ![256]⟩ : Shape).Idx → EReal) (wf : (⟨2, ![256, 1]⟩ : Shape).Idx → EReal) (bf : (⟨1, ![1]⟩ : Shape).Idx → EReal) :
    (⟨2, ![1, 128]⟩ : Shape).Idx → EReal :=
  fun y => layer (features x) (mat Wl) (mat Wr) (fun d => att (ix1 d)) (fun d => b (ix1 d)) (fun d => wf (ix2 d 0)) (bf (ix1 0)) (y 1)

end Cert.Attention
-- ==== Proof.KernelScores.lean ====
/- What the kernel's vector operations compute, read at an index. -/
module

public import proofs.«01_k».proof.Proof.Result
public import proofs.«01_k».proof.Proof.Gen.KernelIdeal.Skeleton
public import Idealize.ShloMosaic.Lib.Pointwise

@[expose] public section

set_option maxRecDepth 16384

noncomputable section

namespace Cert.Attention

open Idealize.ShloMosaic Idealize.SL.Sem Cert.KernelIdeal Cert.KernelIdeal.Gen

/-- The eight rows of scores that start at row `o`: the printed operations of one chunk, at any start row. -/
def chunk (o : Nat) (h : S128x256.Slices ![o, 0] S8x256) (xl xr : FVec Ideal S128x256 .f32) (a : FVec Ideal S256x1 .f32) :
    FVec Ideal S8x128 .f32 :=
  have t : FVec Ideal S8x128x256 .f32 := addf
    (broadcastTo S8x128x256 (shapeCast S8x1x256 (extractStridedSlice S8x256 ![o, 0] xr h) shapeCasts_S8x256_S8x1x256) broadcasts_S8x1x256_S8x128x256)
    (broadcastTo S8x128x256 (shapeCast S1x128x256 xl shapeCasts_S128x256_S1x128x256) broadcasts_S1x128x256_S8x128x256)
  shapeCast S8x128 (matmul dot_S1024x256_S256x1_S1024x1_1_0_0_1_n_n none
    (shapeCast S1024x256 (maximumf t (mulf (broadcast S8x128x256 (Scalar.ofBits .f32 0x3E4CCCCD#32)) t)) shapeCasts_S8x128x256_S1024x256) a
    (constant S1024x1 .f32 0x00000000#32)) shapeCasts_S1024x1_S8x128

/-- Row `r`, column `j` of the chunk that starts at row `o` is the score of the edge from source `j` to target `o + r`. -/
theorem chunk_apply (o : Nat) (h : S128x256.Slices ![o, 0] S8x256) (xl xr : FVec Ideal S128x256 .f32) (a : FVec Ideal S256x1 .f32)
    (r : Fin 8) (j : Fin 128) (hi : o + r.val < 128) :
    chunk o h xl xr a (ix2 r j) = score (mat xl) (mat xr) (fun d => a (ix2 d 0)) ⟨o + r.val, hi⟩ j := by
  unfold score leaky slope
  pointwise [chunk]

/-- The projected features a program step computes from the row `v0` of the inputs, by the weights `W`. -/
theorem pay3_apply (v0 : Vec Ideal S1x32768 .f32) (W : Vec Ideal S256x256 .f32) (n : Fin 128) (d : Fin 256) :
    k0_pay3 (F := Ideal) v0 W (ix2 n d) = project (fun n k => v0 (ix2 0 ⟨n.val * 256 + k.val, by omega⟩)) (mat W) n d := by
  unfold project
  pointwise [k0_pay3, k0_pay2]

/-- The targets' projection is the same function of the row and of its own weights. -/
theorem pay4_apply (v0 : Vec Ideal S1x32768 .f32) (W : Vec Ideal S256x256 .f32) (n : Fin 128) (d : Fin 256) :
    k0_pay4 (F := Ideal) v0 W (ix2 n d) = project (fun n k => v0 (ix2 0 ⟨n.val * 256 + k.val, by omega⟩)) (mat W) n d :=
  pay3_apply v0 W n d

/-- Every start row of a chunk leaves eight rows. -/
theorem chunk_slices (n : Fin 16) : S128x256.Slices ![8 * n.val, 0] S8x256 := by
  revert n; decide

/-- The sixteen chunks one below the other. -/
def rows (xl xr : FVec Ideal S128x256 .f32) (a : FVec Ideal S256x1 .f32) : FVec Ideal S128x128 .f32 :=
  concatenate S128x128 0 (List.ofFn fun n : Fin 16 => (⟨S8x128, chunk (8 * n.val) (chunk_slices n) xl xr a⟩ : (s : Shape) × (s.Idx → EReal)))
    (by exact concatenates_S8x128_S8x128_S8x128_S8x128_S8x128_S8x128_S8x128_S8x128_S8x128_S8x128_S8x128_S8x128_S8x128_S8x128_S8x128_S8x128_S128x128_d0)

/-- Row `i`, column `j` of the sixteen chunks is the score of the edge from `j` to `i`. -/
theorem rows_apply (xl xr : FVec Ideal S128x256 .f32) (a : FVec Ideal S256x1 .f32) (i j : Fin 128) :
    rows xl xr a (ix2 i j) = score (mat xl) (mat xr) (fun d => a (ix2 d 0)) i j := by
  unfold rows
  rw [concatenate_ofFn_apply (s₁ := S8x128) (t := S128x128) 0 (fun n : Fin 16 => chunk (8 * n.val) (chunk_slices n) xl xr a) _ rfl 8 rfl (ix2 i j)
    ⟨i.val / 8, by omega⟩ rfl (ix2 ⟨i.val % 8, by omega⟩ j) rfl
    (fun b hb => match b with
      | ⟨0, _⟩ => absurd rfl hb
      | ⟨1, _⟩ => rfl)]
  rw [chunk_apply _ _ xl xr a _ j (by show 8 * (i.val / 8) + i.val % 8 < 128; omega)]
  exact congrArg (score (mat xl) (mat xr) (fun d => a (ix2 d 0)) · j) (Fin.ext (by show 8 * (i.val / 8) + i.val % 8 = i.val; omega))

/-- The array of scores the program puts together is the sixteen chunks. -/
theorem pay23_eq (v0 : Vec Ideal S1x32768 .f32) (Wl Wr : Vec Ideal S256x256 .f32) (a : Vec Ideal S256x1 .f32) :
    k0_pay23 (F := Ideal) (k0_pay3 v0 Wl) (k0_pay4 v0 Wr) (k0_pay6 v0 Wl Wr a) (k0_pay7 v0 Wl Wr a)
      (k0_pay9 (k0_pay3 v0 Wl) (k0_pay8 v0 Wr) a) (k0_pay10 (k0_pay3 v0 Wl) (k0_pay4 v0 Wr) a) (k0_pay11 (k0_pay3 v0 Wl) (k0_pay4 v0 Wr) a)
      (k0_pay13 (k0_pay12 (k0_pay3 v0 Wl) (k0_pay4 v0 Wr)) a) (k0_pay14 (k0_pay3 v0 Wl) (k0_pay4 v0 Wr) a)
      (k0_pay15 (k0_pay3 v0 Wl) (k0_pay4 v0 Wr) a) (k0_pay16 (k0_pay3 v0 Wl) (k0_pay4 v0 Wr) a)
      (k0_pay19 (k0_pay17 (k0_pay4 v0 Wr)) (k0_pay18 (k0_pay3 v0 Wl)) a) (k0_pay20 (k0_pay3 v0 Wl) (k0_pay4 v0 Wr) a)
      (k0_pay21 (k0_pay3 v0 Wl) (k0_pay4 v0 Wr) a) (k0_pay22 (k0_pay3 v0 Wl) (k0_pay4 v0 Wr)) a a a a
      = rows (k0_pay3 v0 Wl) (k0_pay4 v0 Wr) a := rfl

/-- The attention vector as the program keeps it, a column. -/
theorem pay5_apply (v6 : Vec Ideal S256 .f32) (d : Fin 256) : k0_pay5 (F := Ideal) v6 (ix2 d 0) = v6 (ix1 d) := by
  pointwise [k0_pay5]

/-- The rest of the body from an array of scores `e` and its row maxima: softmax, the mixed features, the bias and the linear map. -/
theorem pay1_apply (xl : FVec Ideal S128x256 .f32) (e : FVec Ideal S128x128 .f32) (b : Vec Ideal S256 .f32)
    (wf : Vec Ideal S256x1 .f32) (bf : Vec Ideal S1 .f32) (i : Fin 128) :
    k0_pay1 (F := Ideal) xl e
      (shapeCast S128x1 (multiReduction (F := Ideal) .maximumf [1] S128 e 0xFF800000#32 reduces_S128x128_S128 (.inl rfl) rfl) shapeCasts_S128_S128x1)
      b wf bf (ix2 0 i)
      = readout (mixed (mat e) (mat xl) (fun d => b (ix1 d))) (fun d => wf (ix2 d 0)) (bf (ix1 0)) i := by
  unfold readout mixed softmax weight rowMax
  pointwise [k0_pay1]
  rw [negInfinity]

/-- The body's result from the row `v0` of the inputs it reads and its other operands: the layer of that row's features. -/
theorem body_term_apply (v0 : Vec Ideal S1x32768 .f32) (Wl Wr : Vec Ideal S256x256 .f32) (att b : Vec Ideal S256 .f32)
    (wf : Vec Ideal S256x1 .f32) (bf : Vec Ideal S1 .f32) (i : Fin 128) :
    k0_pay1 (F := Ideal) (k0_pay3 v0 Wl) (rows (k0_pay3 v0 Wl) (k0_pay4 v0 Wr) (k0_pay5 att))
      (shapeCast S128x1 (multiReduction (F := Ideal) .maximumf [1] S128 (rows (k0_pay3 v0 Wl) (k0_pay4 v0 Wr) (k0_pay5 att))
        0xFF800000#32 reduces_S128x128_S128 (.inl rfl) rfl) shapeCasts_S128_S128x1) b wf bf (ix2 0 i)
      = layer (fun n k => v0 (ix2 0 ⟨n.val * 256 + k.val, by omega⟩)) (mat Wl) (mat Wr) (fun d => att (ix1 d)) (fun d => b (ix1 d))
          (fun d => wf (ix2 d 0)) (bf (ix1 0)) i := by
  have hl : mat (k0_pay3 (F := Ideal) v0 Wl) = _ := funext fun n => funext fun d => pay3_apply v0 Wl n d
  have hr : mat (k0_pay4 (F := Ideal) v0 Wr) = _ := funext fun n => funext fun d => pay4_apply v0 Wr n d
  have he : mat (rows (k0_pay3 v0 Wl) (k0_pay4 v0 Wr) (k0_pay5 att)) = _ :=
    funext fun i => funext fun j => rows_apply (k0_pay3 v0 Wl) (k0_pay4 v0 Wr) (k0_pay5 att) i j
  simp only [pay5_apply] at he
  rw [pay1_apply, he, hl, hr]
  rfl

end Cert.Attention
-- ==== Proof.KernelOutput.lean ====
/- What the kernel's result array holds after the run: the attention layer of the last graph's features. -/
module

public import proofs.«01_k».proof.Proof.KernelScores
public import proofs.«01_k».proof.Proof.Gen.KernelIdeal.Value
public import Idealize.ShloMosaic.Lib.Claim
public import Idealize.ShloMosaic.Lib.Pipeline.ValueKit

@[expose] public section

set_option maxRecDepth 16384

noncomputable section

namespace Cert.Attention

open Idealize.ShloMosaic Idealize.ShloMosaic.TcCoe Idealize.SL.Sem Cert.KernelIdeal Cert.KernelIdeal.Gen

variable (m : (ℓ : Loc nD τ sig) → Buf (Elt Ideal) ℓ)

/-- Two zero offsets are the zero offset function. -/
theorem zeros2 : (![0, 0] : Fin 2 → Nat) = fun _ => 0 := funext fun a => by fin_cases a <;> rfl

/-- One zero offset is the zero offset function. -/
theorem zeros1 : (![0] : Fin 1 → Nat) = fun _ => 0 := funext fun a => by fin_cases a; rfl

/-- The body's result: entry `i` of what it leaves for the output, from the input blocks. -/
theorem body_apply (c : Dev nD) (t : Fin cfg0.N) (i : Fin 128) :
    outsAt0 m c t (ix2 0 i) = layer (fun n k => iblk m c 0 t (ix2 7 ⟨n.val * 256 + k.val, by omega⟩))
      (mat (iblk m c 1 t)) (mat (iblk m c 2 t)) (fun d => iblk m c 3 t (ix1 d)) (fun d => iblk m c 4 t (ix1 d))
      (fun d => iblk m c 5 t (ix2 d 0)) (iblk m c 6 t (ix1 0)) i := by
  unfold outsAt0 out0_A_7
  rw [View.read_writes_eq_canon _ _ _ (cover0_A_7 c _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread]
  rw [View.canon_unit_zero (S := S1x128) zeros2]
  simp only [View.readCov_unit_zero (S := S256x1) _ zeros2, View.ld_unit_zero (S := S256x256) zeros2, View.ld_unit_zero (S := S256) zeros1,
    View.ld_unit_zero (S := S256x1) zeros2, View.ld_unit_zero (S := S1) zeros1, k0_pay24, pay23_eq]
  refine (body_term_apply _ _ _ _ _ _ _ i).trans ?_
  pointwise []

/-- The blocks the one step takes: rows 8 to 15 of the inputs, and every other array whole. -/
theorem blocks : ∀ t : Fin cfg0.N, win0_0.index t = ![1, 0] ∧ win0_1.index t = ![0, 0] ∧ win0_2.index t = ![0, 0]
    ∧ win0_3.index t = ![0] ∧ win0_4.index t = ![0] ∧ win0_5.index t = ![0, 0] ∧ win0_6.index t = ![0] ∧ win0_7.index t = ![0, 0] :=
  (by decide +kernel : ∀ t : Fin grid0.N, _)

/-- After the run the output array holds the layer of the last graph, computed from the arguments as launched. -/
theorem kernel_output (c : Dev nD) :
    (dats m 0 c).arrAt 7 cfg0.N = result (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 7 _ (by decide +kernel) fun t hf y => ?_
  idx_vars y
  blk_simp
  rw [after0_7]
  obtain rfl : y0 = 0 := Subsingleton.elim _ _
  have hy : (win0_7.blk t).view.emb (ix2 0 y1) = ix2 0 y1 := by blk_ext [blocks t]
  rw [hy, body_apply]
  unfold result
  have h0 : (fun (n : Fin 128) (k : Fin 256) => iblk m c 0 t (ix2 7 ⟨n.val * 256 + k.val, by omega⟩))
      = features (m ((c : Thread nD τ).loc main_arg0)) := by
    funext n k
    unfold features
    blk_ext [iblk, V, blocks t]
  have h1 : mat (iblk m c 1 t) = mat (m ((c : Thread nD τ).loc main_arg2)) := by
    funext n k
    unfold mat
    blk_ext [iblk, V, blocks t]
  have h2 : mat (iblk m c 2 t) = mat (m ((c : Thread nD τ).loc main_arg3)) := by
    funext n k
    unfold mat
    blk_ext [iblk, V, blocks t]
  have h3 : ∀ d : Fin 256, iblk m c 3 t (ix1 d) = m ((c : Thread nD τ).loc main_arg4) (ix1 d) := fun d => by
    blk_ext [iblk, V, blocks t]
  have h4 : ∀ d : Fin 256, iblk m c 4 t (ix1 d) = m ((c : Thread nD τ).loc main_arg5) (ix1 d) := fun d => by
    blk_ext [iblk, V, blocks t]
  have h5 : ∀ d : Fin 256, iblk m c 5 t (ix2 d 0) = m ((c : Thread nD τ).loc main_arg6) (ix2 d 0) := fun d => by
    blk_ext [iblk, V, blocks t]
  have h6 : iblk m c 6 t (ix1 0) = m ((c : Thread nD τ).loc main_arg7) (ix1 0) := by
    blk_ext [iblk, V, blocks t]
  rw [h0, h1, h2, funext h3, funext h4, funext h5, h6]
  rfl

end Cert.Attention
-- ==== Proof.Edges.lean ====
/- The edge list of the complete graph: what the precondition says of the two rows, word by word. -/
module

public import proofs.«01_k».proof.Proof.Gen.Pre_complete_graph
public import Idealize.ShloMosaic.Lib.Pointwise
public import Idealize.ShloMosaic.Lib.ReduceAll

@[expose] public section

noncomputable section

namespace Cert.Attention

open Idealize.ShloMosaic

/-- The position in the edge list of the edge from node `j` to node `i`. -/
def edge (j i : Fin 128) : Fin 16384 := ⟨j.val * 128 + i.val, by omega⟩

/-- Every position of the edge list is the edge from its quotient by 128 to its remainder. -/
theorem edge_surj (p : Fin 16384) : ∃ j i, p = edge j i :=
  ⟨⟨p.val / 128, by omega⟩, ⟨p.val % 128, by omega⟩, Fin.ext (by simp only [edge]; omega)⟩

/-- Edges with the same position have the same two ends. -/
theorem edge_inj {j i j' i' : Fin 128} : edge j i = edge j' i' ↔ j = j' ∧ i = i' := by
  simp only [edge, Fin.ext_iff]; omega

/-- A word comparison for equality that answers one compared equal words. -/
theorem of_eq_one {x y : BitVec 32} (h : IntOp.cmpi .eq x y = 1#1) : x = y := by
  have hb : (x == y) = true := (BitVec.ofBool_eq_iff_eq (b' := true)).1 h
  exact eq_of_beq hb

open Cert.Pre_complete_graph Cert.Pre_complete_graph.Gen in
/-- Under the precondition the first row of the edge list names each edge's source and the second its target. -/
theorem edge_words {x0 : FVec Ideal S16x32768 .f32} {x1 : IVec S2x16384 32} {x2 x3 : FVec Ideal S256x256 .f32}
    {x4 x5 : FVec Ideal S256 .f32} {x6 : FVec Ideal S256x1 .f32} {x7 : FVec Ideal S1 .f32}
    (h : Cert.Pre_complete_graph.fn x0 x1 x2 x3 x4 x5 x6 x7 = fun _ => 1#1) (j i : Fin 128) :
    x1 (ix2 0 (edge j i)) = BitVec.ofNat 32 j.val ∧ x1 (ix2 1 (edge j i)) = BitVec.ofNat 32 i.val := by
  have h0 := congrFun h ix0
  dsimp only [Cert.Pre_complete_graph.fn] at h0
  haveI : Subsingleton S_.Idx := ⟨fun a b => funext fun k => k.elim0⟩
  have h1 := fun k => Host.reduce_andi_all _ _ _ _ _ h0 k
  constructor
  · have e := h1 (ix2 0 (edge j i))
    pointwise [] at e
    exact (of_eq_one e).trans (congrArg _ (by simp only [edge]; omega))
  · have e := h1 (ix2 1 (edge j i))
    pointwise [] at e
    exact (of_eq_one e).trans (congrArg _ (by simp only [edge]; omega))

end Cert.Attention
-- ==== Proof.Rows.lean ====
/- The reference's gathers and scatter-adds over the edge list, read at an index. -/
module

public import proofs.«01_k».proof.Proof.Edges
public import proofs.«01_k».proof.Proof.Gen.ReferenceIdeal
public import Idealize.ShloMosaic.Lib.StableHlo.Predicate
public import Idealize.ShloMosaic.Lib.Routing.OpsPair

@[expose] public section

noncomputable section

namespace Cert.Attention

open Idealize.ShloMosaic Cert.ReferenceIdeal Cert.ReferenceIdeal.Gen

/-- A gathered feature row: at an edge whose index word names node `n`, entry `d` is the table's entry `d` at `n`. -/
theorem gather3_apply (x : S16x128x256.Idx → EReal) (idx : IVec S16384x1 32) (g : Fin 16) (p : Fin 16384)
    (d : Fin 256) (n : Fin 128) (h : idx (ix2 p 0) = BitVec.ofNat 32 n.val) :
    Host.gather gather_S16x128x256_S16384x1_S16x16384x256_02_1_n_n_1_1_161256 x idx (ix3 g p d) = x (ix3 g n d) := by
  unfold Host.gather
  refine congrArg x (funext fun a => Fin.ext ?_)
  fin_cases a
  · exact Nat.zero_add _
  · have e : (gather_S16x128x256_S16384x1_S16x16384x256_02_1_n_n_1_1_161256).siIdx (ix3 g p d) ⟨0, by decide⟩ = ix2 p 0 := by
      funext b; fin_cases b <;> rfl
    have hv : (idx (ix2 p 0)).toInt = n.val := by rw [h]; exact StableHlo.Predicate.toInt_ofNat_small _ (by omega)
    rw [← e] at hv
    show min ((idx ((gather_S16x128x256_S16384x1_S16x16384x256_02_1_n_n_1_1_161256).siIdx (ix3 g p d) ⟨0, _⟩)).toInt).toNat 127 = n.val
    rw [hv]
    omega
  · exact Nat.zero_add _

/-- A gathered entry: at an edge whose index word names node `n` it is the table's entry at `n`. -/
theorem gather2_apply (x : S16x128.Idx → EReal) (idx : IVec S16384x1 32) (g : Fin 16) (p : Fin 16384)
    (n : Fin 128) (h : idx (ix2 p 0) = BitVec.ofNat 32 n.val) :
    Host.gather gather_S16x128_S16384x1_S16x16384_0_1_n_n_1_1_161 x idx (ix2 g p) = x (ix2 g n) := by
  unfold Host.gather
  refine congrArg x (funext fun a => Fin.ext ?_)
  fin_cases a
  · exact Nat.zero_add _
  · have e : (gather_S16x128_S16384x1_S16x16384_0_1_n_n_1_1_161).siIdx (ix2 g p) ⟨0, by decide⟩ = ix2 p 0 := by
      funext b; fin_cases b <;> rfl
    have hv : (idx (ix2 p 0)).toInt = n.val := by rw [h]; exact StableHlo.Predicate.toInt_ofNat_small _ (by omega)
    rw [← e] at hv
    show min ((idx ((gather_S16x128_S16384x1_S16x16384_0_1_n_n_1_1_161).siIdx (ix2 g p) ⟨0, _⟩)).toInt).toNat 127 = n.val
    rw [hv]
    omega

/-- The update at edge `p` lands at the node its index word names. -/
theorem scatter2_lands (idx : IVec S16384x1 32) (g g' : Fin 16) (p : Fin 16384) (n i : Fin 128)
    (h : idx (ix2 p 0) = BitVec.ofNat 32 n.val) :
    (scatter_S16x128_S16384x1_S16x16384_0_1_1_1).resultIdx? (ix2 g p) idx = some (ix2 g' i) ↔ g = g' ∧ n = i := by
  have e : (scatter_S16x128_S16384x1_S16x16384_0_1_1_1).siIdx (ix2 g p) ⟨0, by decide⟩ = ix2 p 0 := by
    funext b; fin_cases b <;> rfl
  have hv : (idx (ix2 p 0)).toInt = n.val := by rw [h]; exact StableHlo.Predicate.toInt_ofNat_small _ (by omega)
  rw [← e] at hv
  rw [Routing.resultIdx?_eq_some]
  have h0 : (scatter_S16x128_S16384x1_S16x16384_0_1_1_1).start (ix2 g p) idx 0 = 0 := rfl
  have h1 : (scatter_S16x128_S16384x1_S16x16384_0_1_1_1).start (ix2 g p) idx 1 = n.val := hv
  have w0 : (scatter_S16x128_S16384x1_S16x16384_0_1_1_1).window (ix2 g p) 0 = g.val := rfl
  have w1 : (scatter_S16x128_S16384x1_S16x16384_0_1_1_1).window (ix2 g p) 1 = 0 := rfl
  refine ⟨fun hh => ?_, ?_⟩
  · have a0 := hh 0; have a1 := hh 1
    rw [h0, w0] at a0; rw [h1, w1] at a1
    have b0 : (0 : Int) + g.val = g'.val := a0
    have b1 : (n.val : Int) + (0 : Nat) = i.val := a1
    exact ⟨Fin.ext (by omega), Fin.ext (by omega)⟩
  · rintro ⟨rfl, rfl⟩ a
    fin_cases a
    · exact (congrArg₂ (fun (u : Int) (v : Nat) => u + (v : Int)) h0 w0).trans (Int.zero_add _)
    · exact (congrArg₂ (fun (u : Int) (v : Nat) => u + (v : Int)) h1 w1).trans (Int.add_zero _)

/-- The update row at edge `p` lands at the node its index word names, entry by entry. -/
theorem scatter3_lands (idx : IVec S16384x1 32) (g g' : Fin 16) (p : Fin 16384) (d d' : Fin 256) (n i : Fin 128)
    (h : idx (ix2 p 0) = BitVec.ofNat 32 n.val) :
    (scatter_S16x128x256_S16384x1_S16x16384x256_02_1_1_1).resultIdx? (ix3 g p d) idx = some (ix3 g' i d') ↔
      g = g' ∧ n = i ∧ d = d' := by
  have e : (scatter_S16x128x256_S16384x1_S16x16384x256_02_1_1_1).siIdx (ix3 g p d) ⟨0, by decide⟩ = ix2 p 0 := by
    funext b; fin_cases b <;> rfl
  have hv : (idx (ix2 p 0)).toInt = n.val := by rw [h]; exact StableHlo.Predicate.toInt_ofNat_small _ (by omega)
  rw [← e] at hv
  rw [Routing.resultIdx?_eq_some]
  have h0 : (scatter_S16x128x256_S16384x1_S16x16384x256_02_1_1_1).start (ix3 g p d) idx 0 = 0 := rfl
  have h1 : (scatter_S16x128x256_S16384x1_S16x16384x256_02_1_1_1).start (ix3 g p d) idx 1 = n.val := hv
  have h2 : (scatter_S16x128x256_S16384x1_S16x16384x256_02_1_1_1).start (ix3 g p d) idx 2 = 0 := rfl
  have w0 : (scatter_S16x128x256_S16384x1_S16x16384x256_02_1_1_1).window (ix3 g p d) 0 = g.val := rfl
  have w1 : (scatter_S16x128x256_S16384x1_S16x16384x256_02_1_1_1).window (ix3 g p d) 1 = 0 := rfl
  have w2 : (scatter_S16x128x256_S16384x1_S16x16384x256_02_1_1_1).window (ix3 g p d) 2 = d.val := rfl
  refine ⟨fun hh => ?_, ?_⟩
  · have a0 := hh 0; have a1 := hh 1; have a2 := hh 2
    rw [h0, w0] at a0; rw [h1, w1] at a1; rw [h2, w2] at a2
    have b0 : (0 : Int) + g.val = g'.val := a0
    have b1 : (n.val : Int) + (0 : Nat) = i.val := a1
    have b2 : (0 : Int) + d.val = d'.val := a2
    exact ⟨Fin.ext (by omega), Fin.ext (by omega), Fin.ext (by omega)⟩
  · rintro ⟨rfl, rfl, rfl⟩ a
    fin_cases a
    · exact (congrArg₂ (fun (u : Int) (v : Nat) => u + (v : Int)) h0 w0).trans (Int.zero_add _)
    · exact (congrArg₂ (fun (u : Int) (v : Nat) => u + (v : Int)) h1 w1).trans (Int.add_zero _)
    · exact (congrArg₂ (fun (u : Int) (v : Nat) => u + (v : Int)) h2 w2).trans (Int.zero_add _)

/-- A scatter-add over the edges by target: node `i` gathers the updates of its incoming edges, one per source. -/
theorem scatter2_apply (x : S16x128.Idx → EReal) (idx : IVec S16384x1 32) (upd : S16x16384.Idx → EReal)
    (h : ∀ j i, idx (ix2 (edge j i) 0) = BitVec.ofNat 32 i.val) (g : Fin 16) (i : Fin 128) :
    Ideal.hostScatterAdd scatter_S16x128_S16384x1_S16x16384_0_1_1_1 x idx upd (ix2 g i) =
      x (ix2 g i) + ∑ j : Fin 128, upd (ix2 g (edge j i)) := by
  refine congrArg (x (ix2 g i) + ·) (Finset.sum_nbij (fun j => ix2 g (edge j i)) ?_ ?_ ?_ fun _ _ => rfl).symm
  · exact fun j _ => Finset.mem_filter.2 ⟨Finset.mem_univ _, (scatter2_lands idx g g _ i i (h j i)).2 ⟨rfl, rfl⟩⟩
  · exact fun j _ j' _ e => (edge_inj.1 (congrFun e 1)).1
  · intro q hq
    have hq := (Finset.mem_filter.1 hq).2
    obtain ⟨g', p, rfl⟩ : ∃ g' p, q = ix2 g' p := by idx_vars q; exact ⟨_, _, rfl⟩
    obtain ⟨j, i', rfl⟩ := edge_surj p
    obtain ⟨rfl, rfl⟩ := (scatter2_lands idx _ _ _ _ _ (h j i')).1 hq
    exact ⟨j, Finset.mem_coe.2 (Finset.mem_univ j), rfl⟩

/-- A scatter-add of rows over the edges by target: node `i` gathers the rows of its incoming edges, one per source. -/
theorem scatter3_apply (x : S16x128x256.Idx → EReal) (idx : IVec S16384x1 32) (upd : S16x16384x256.Idx → EReal)
    (h : ∀ j i, idx (ix2 (edge j i) 0) = BitVec.ofNat 32 i.val) (g : Fin 16) (i : Fin 128) (d : Fin 256) :
    Ideal.hostScatterAdd scatter_S16x128x256_S16384x1_S16x16384x256_02_1_1_1 x idx upd (ix3 g i d) =
      x (ix3 g i d) + ∑ j : Fin 128, upd (ix3 g (edge j i) d) := by
  refine congrArg (x (ix3 g i d) + ·) (Finset.sum_nbij (fun j => ix3 g (edge j i) d) ?_ ?_ ?_ fun _ _ => rfl).symm
  · exact fun j _ => Finset.mem_filter.2 ⟨Finset.mem_univ _, (scatter3_lands idx g g _ d d i i (h j i)).2 ⟨rfl, rfl, rfl⟩⟩
  · exact fun j _ j' _ e => (edge_inj.1 (congrFun e 1)).1
  · intro q hq
    have hq := (Finset.mem_filter.1 hq).2
    obtain ⟨g', p, d', rfl⟩ : ∃ g' p d', q = ix3 g' p d' := by idx_vars q; exact ⟨_, _, _, rfl⟩
    obtain ⟨j, i', rfl⟩ := edge_surj p
    obtain ⟨rfl, rfl, rfl⟩ := (scatter3_lands idx _ _ _ _ _ _ _ (h j i')).1 hq
    exact ⟨j, Finset.mem_coe.2 (Finset.mem_univ j), rfl⟩

end Cert.Attention
-- ==== Proof.ReferenceScores.lean ====
/- The reference's index columns, projections, scores and row maxima, read at an index of the complete graph. -/
module

public import proofs.«01_k».proof.Proof.Rows
public import proofs.«01_k».proof.Proof.Result
public import proofs.«01_k».proof.Proof.Gen.ReferenceIdeal.Read

@[expose] public section

set_option maxRecDepth 16384

noncomputable section

namespace Cert.Attention

open Idealize.ShloMosaic Cert.ReferenceIdeal Cert.ReferenceIdeal.Gen Cert.ReferenceIdeal.Read

/-- A node number is its own wrapped index: it is not negative, so nothing is added. -/
theorem wrap_node (n : Fin 128) :
    Scalar.select (IntOp.cmpi .slt (BitVec.ofNat 32 n.val) 0#32) (IntOp.addi (BitVec.ofNat 32 n.val) 128#32) (BitVec.ofNat 32 n.val) =
      BitVec.ofNat 32 n.val :=
  Routing.wrap_of_lt _ _ (by
    rw [BitVec.toNat_ofNat, Nat.mod_eq_of_lt (by omega)]
    exact lt_trans n.isLt (by norm_num))

variable {x0 : FVec Ideal S16x32768 .f32} {x1 : IVec S2x16384 32} {x2 x3 : FVec Ideal S256x256 .f32} {x4 : FVec Ideal S256 .f32}

/-- The edge list is the complete graph's: each edge's two words are its source and its target. -/
abbrev Complete (x1 : IVec S2x16384 32) : Prop :=
  ∀ j i, x1 (ix2 0 (edge j i)) = BitVec.ofNat 32 j.val ∧ x1 (ix2 1 (edge j i)) = BitVec.ofNat 32 i.val

/-- The wrapped column of sources holds each edge's source. -/
theorem sources_apply (h : Complete x1) (j i : Fin 128) :
    val_main_v12 (F := Ideal) x1 (ix2 (edge j i) 0) = BitVec.ofNat 32 j.val := by
  refine Eq.trans ?_ (wrap_node j)
  rw [← (h j i).1]
  pointwise [val_main_v12, val_main_v11, val_main_v10, val_main_v9, val_main_v8, val_main_v7, val_main_c, val_main_c_0, val_main_v1, val_main_v0]

/-- The wrapped column of targets holds each edge's target. -/
theorem targets_apply (h : Complete x1) (j i : Fin 128) :
    val_main_v19 (F := Ideal) x1 (ix2 (edge j i) 0) = BitVec.ofNat 32 i.val := by
  refine Eq.trans ?_ (wrap_node i)
  rw [← (h j i).2]
  pointwise [val_main_v19, val_main_v18, val_main_v17, val_main_v16, val_main_v15, val_main_v14, val_main_c_1, val_main_c_2, val_main_v3, val_main_v2]

/-- The column of targets as given holds each edge's target. -/
theorem column_apply (h : Complete x1) (j i : Fin 128) :
    val_main_v43 (F := Ideal) x1 (ix2 (edge j i) 0) = BitVec.ofNat 32 i.val := by
  rw [← (h j i).2]
  pointwise [val_main_v43, val_main_v3, val_main_v2]

/-- The sources' projection of the last graph. -/
theorem projection_apply (n : Fin 128) (d : Fin 256) :
    val_main_v5 (F := Ideal) x0 x2 (ix3 15 n d) = project (features x0) (mat x2) n d := by
  unfold project
  pointwise [val_main_v5, val_main_v4]

/-- The targets' projection of the last graph: the same function, of its own weights. -/
theorem projection_apply' (n : Fin 128) (d : Fin 256) :
    val_main_v6 (F := Ideal) x0 x3 (ix3 15 n d) = project (features x0) (mat x3) n d :=
  projection_apply n d

/-- The rectified sum of the two ends' projections at an edge of the last graph. -/
theorem rectified_apply (h : Complete x1) (j i : Fin 128) (d : Fin 256) :
    val_main_v22 (F := Ideal) x0 x1 x2 x3 (ix3 15 (edge j i) d) =
      leaky (project (features x0) (mat x3) i d + project (features x0) (mat x2) j d) := by
  have hs : val_main_v21 (F := Ideal) x0 x1 x2 x3 (ix3 15 (edge j i) d) =
      project (features x0) (mat x3) i d + project (features x0) (mat x2) j d := by
    refine Eq.trans ?_ (add_comm _ _)
    refine congrArg₂ (· + ·) ?_ ?_
    · exact (gather3_apply _ _ _ _ _ j (sources_apply h j i)).trans (projection_apply j d)
    · exact (gather3_apply _ _ _ _ _ i (targets_apply h j i)).trans (projection_apply' i d)
  rw [← leaky_cases, ← hs]
  generalize hv : val_main_v21 (F := Ideal) x0 x1 x2 x3 = v
  unfold slope
  pointwise [val_main_v22, val_main_call0_v4, val_main_call0_v3, val_main_call0_v2, val_main_call0_v1, val_main_call0_v0, val_main_call0_cst, val_main_cst, hv]
  rfl

/-- The score of an edge of the last graph. -/
theorem score_apply (h : Complete x1) (j i : Fin 128) :
    val_main_v23 (F := Ideal) x0 x1 x2 x3 x4 (ix2 15 (edge j i)) =
      score (project (features x0) (mat x2)) (project (features x0) (mat x3)) (fun d => x4 (ix1 d)) i j := by
  unfold score
  pointwise [val_main_v23]
  exact Finset.sum_congr rfl fun d _ => congrArg (· * _) (rectified_apply h j i d)

/-- A maximum over the edges that enter node `i`, minus infinity at every other edge, is the maximum over their sources. -/
theorem fold_incoming (f : Fin 16384 → EReal) (e : Fin 128 → EReal) (i : Fin 128)
    (h : ∀ j k, f (edge j k) = if k = i then e j else ⊥) :
    Finset.univ.fold max ⊥ f = Finset.univ.fold max ⊥ e := by
  show Finset.univ.sup f = Finset.univ.sup e
  refine le_antisymm (Finset.sup_le fun p _ => ?_) (Finset.sup_le fun j _ => ?_)
  · obtain ⟨j, k, rfl⟩ := edge_surj p
    rw [h]
    split
    · exact Finset.le_sup (Finset.mem_univ j)
    · exact bot_le
  · have := Finset.le_sup (f := f) (Finset.mem_univ (edge j i))
    rwa [h, if_pos rfl] at this

/-- The masked scores of a node: an edge's score where the edge enters the node, minus infinity elsewhere. -/
theorem masked_apply (h : Complete x1) (i j k : Fin 128) :
    val_main_v31 (F := Ideal) x0 x1 x2 x3 x4 (ix3 15 i (edge j k)) =
      if k = i then score (project (features x0) (mat x2)) (project (features x0) (mat x3)) (fun d => x4 (ix1 d)) i j else ⊥ := by
  pointwise [val_main_v31, val_main_call1_v4, val_main_call1_v3, val_main_call1_v2, val_main_call1_v1, val_main_call1_v0, val_main_v30, val_main_v29, val_main_v28, val_main_v27, val_main_v26, val_main_v25, val_main_v24, val_main_v3, val_main_v2]
  have hz : id (val_main_cst_3 (F := Ideal)) ix0 = ⊥ := negInfinity
  rw [(h j k).2, score_apply h j k, hz]
  by_cases hk : k = i
  · rw [if_pos hk, hk, IntOp.cmpi_eq_self]
    rfl
  · have hne : ¬ IntOp.cmpi .eq (BitVec.ofNat 32 k.val) (BitVec.ofNat 32 i.val) = 1#1 := fun e => hk (Fin.ext (by
      have := congrArg BitVec.toNat (of_eq_one e)
      rwa [BitVec.toNat_ofNat, BitVec.toNat_ofNat, Nat.mod_eq_of_lt (by omega), Nat.mod_eq_of_lt (by omega)] at this))
    rw [if_neg hk]
    exact if_neg hne

/-- The greatest score among the edges that enter a node of the last graph. -/
theorem rowMax_apply (h : Complete x1) (i : Fin 128) :
    val_main_v32 (F := Ideal) x0 x1 x2 x3 x4 (ix2 15 i) =
      rowMax (score (project (features x0) (mat x2)) (project (features x0) (mat x3)) (fun d => x4 (ix1 d))) i := by
  unfold rowMax
  refine Eq.trans ?_ (fold_incoming (fun p => val_main_v31 (F := Ideal) x0 x1 x2 x3 x4 (ix3 15 i p)) _ i fun j k => masked_apply h i j k)
  rw [← negInfinity]
  pointwise [val_main_v32, val_main_cst_4]

end Cert.Attention
-- ==== Proof.ReferenceOutput.lean ====
/- What the reference returns on the complete graph: the attention layer of the last graph's features. -/
module

public import proofs.«01_k».proof.Proof.ReferenceScores

@[expose] public section

set_option maxRecDepth 16384

noncomputable section

namespace Cert.Attention

open Idealize.ShloMosaic Cert.ReferenceIdeal Cert.ReferenceIdeal.Gen Cert.ReferenceIdeal.Read

variable {x0 : FVec Ideal S16x32768 .f32} {x1 : IVec S2x16384 32} {x2 x3 : FVec Ideal S256x256 .f32} {x4 x5 : FVec Ideal S256 .f32}
  {x6 : FVec Ideal S256x1 .f32} {x7 : FVec Ideal S1 .f32}

variable (x0 x2 x3 x4) in
/-- The scores of the last graph, from the programs' arguments. -/
abbrev scores : Fin 128 → Fin 128 → EReal :=
  score (project (features x0) (mat x2)) (project (features x0) (mat x3)) (fun d => x4 (ix1 d))

/-- The weight of an edge of the last graph. -/
theorem weight_apply (h : Complete x1) (j i : Fin 128) :
    val_main_v41 (F := Ideal) x0 x1 x2 x3 x4 (ix2 15 (edge j i)) = weight (scores x0 x2 x3 x4) i j := by
  refine congrArg Ideal.exp (congrArg₂ (· - ·) (score_apply h j i) ?_)
  exact (gather2_apply _ _ _ _ i (targets_apply h j i)).trans (rowMax_apply h i)

/-- The sum of the weights of the edges that enter a node of the last graph. -/
theorem weights_apply (h : Complete x1) (i : Fin 128) :
    val_main_v45 (F := Ideal) x0 x1 x2 x3 x4 (ix2 15 i) = ∑ j : Fin 128, weight (scores x0 x2 x3 x4) i j := by
  refine (scatter2_apply _ _ _ (column_apply h) 15 i).trans ?_
  have hz : val_main_v44 (F := Ideal) (ix2 15 i) = 0 := by pointwise [val_main_v44, val_main_v42, val_main_cst_7]
  rw [hz, zero_add]
  exact Finset.sum_congr rfl fun j _ => weight_apply h j i

/-- The softmax of an edge of the last graph. -/
theorem softmax_apply (h : Complete x1) (j i : Fin 128) :
    val_main_v53 (F := Ideal) x0 x1 x2 x3 x4 (ix2 15 (edge j i)) = softmax (scores x0 x2 x3 x4) i j := by
  have hg : val_main_v52 (F := Ideal) x0 x1 x2 x3 x4 (ix2 15 (edge j i)) = val_main_v45 (F := Ideal) x0 x1 x2 x3 x4 (ix2 15 i) :=
    gather2_apply (val_main_v45 (F := Ideal) x0 x1 x2 x3 x4) _ _ _ i (targets_apply h j i)
  unfold softmax
  rw [← weights_apply h i, ← hg, ← weight_apply h j i]
  exact val_main_v53_apply ..

/-- The message an edge of the last graph carries: its softmax times its source's projection. -/
theorem message_apply (h : Complete x1) (j i : Fin 128) (d : Fin 256) :
    val_main_v63 (F := Ideal) x0 x1 x2 x3 x4 (ix3 15 (edge j i) d) =
      softmax (scores x0 x2 x3 x4) i j * project (features x0) (mat x2) j d := by
  have hg : val_main_v61 (F := Ideal) x0 x1 x2 (ix3 15 (edge j i) d) = project (features x0) (mat x2) j d :=
    (gather3_apply _ _ _ _ _ j (sources_apply h j i)).trans (projection_apply j d)
  rw [← hg, ← softmax_apply h j i]
  pointwise [val_main_v63, val_main_v62, val_main_v54]

/-- The new features of a node of the last graph. -/
theorem mixed_apply (h : Complete x1) (i : Fin 128) (d : Fin 256) :
    val_main_v71 (F := Ideal) x0 x1 x2 x3 x4 x5 (ix3 15 i d) =
      mixed (scores x0 x2 x3 x4) (project (features x0) (mat x2)) (fun d => x5 (ix1 d)) i d := by
  have hs : val_main_v67 (F := Ideal) x0 x1 x2 x3 x4 (ix3 15 i d) =
      ∑ j : Fin 128, softmax (scores x0 x2 x3 x4) i j * project (features x0) (mat x2) j d := by
    refine (scatter3_apply _ _ _ (column_apply h) 15 i d).trans ?_
    have hz : val_main_v66 (F := Ideal) (ix3 15 i d) = 0 := by pointwise [val_main_v66, val_main_v64, val_main_cst_12]
    rw [hz, zero_add]
    exact Finset.sum_congr rfl fun j _ => message_apply h j i d
  unfold mixed
  rw [← hs]
  pointwise [val_main_v71, val_main_v70, val_main_v69, val_main_v68]

/-- The reference returns the layer of the last graph when the edge list is the complete graph's. -/
theorem reference_output (h : Complete x1) :
    val_main_v80 (F := Ideal) x0 x1 x2 x3 x4 x5 x6 x7 = result x0 x2 x3 x4 x5 x6 x7 := by
  funext y
  idx_vars y
  have hr : val_main_v80 (F := Ideal) x0 x1 x2 x3 x4 x5 x6 x7 (ix2 y0 y1) =
      (∑ d : Fin 256, val_main_v71 (F := Ideal) x0 x1 x2 x3 x4 x5 (ix3 15 y1 d) * x6 (ix2 d 0)) + x7 (ix1 0) := by
    pointwise [val_main_v80, val_main_v79, val_main_v78, val_main_v77, val_main_v76, val_main_v75, val_main_v74, val_main_v73, val_main_v72]
  rw [hr]
  show _ = (∑ d : Fin 256, x6 (ix2 d 0) * mixed _ _ _ y1 d) + x7 (ix1 0)
  exact congrArg (· + x7 (ix1 0)) (Finset.sum_congr rfl fun d _ => (mul_comm _ _).trans (congrArg (x6 (ix2 d 0) * ·) (mixed_apply h y1 d)))

end Cert.Attention
-- ==== Proof.lean ====
/- The certificate's claims, put together. The three frames are the generated runs read at the arguments; the idealized kernel is the
   kernel itself; and the equation says that, on the complete graph's edge list, the idealized kernel and the reference both return
   the attention layer of the last graph (Proof/Result.lean), by Proof/KernelOutput.lean and Proof/ReferenceOutput.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_complete_graph
public import proofs.«01_k».proof.Proof.KernelOutput
public import proofs.«01_k».proof.Proof.ReferenceOutput
public import Idealize.ShloMosaic.Lib.Quiescent
public import Idealize.ShloMosaic.Adequacy
public import Idealize.ShloMosaic.Init

@[expose] public section

noncomputable section

namespace Cert.Proof

open Idealize.ShloMosaic Idealize.SL.Sem Cert.Attention

/-- The reference's frame: its run leaves the arguments as they were, and it declares no semaphore. -/
theorem reference_frame :
    letI := Cert.ReferenceIdeal.Gen.facts
    Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The idealized kernel and the reference, from memories that agree on the arguments and hold the complete graph's edge list,
    both end with the attention layer of the last graph in the result array. -/
theorem algebraic :
    letI := Cert.KernelIdeal.Gen.facts; letI := Cert.ReferenceIdeal.Gen.facts; letI := Cert.Pre_complete_graph.Gen.facts
    Cert.algebraic_KernelIdeal_ReferenceIdeal_pre_complete_graph := fun m g m' g' hpre hargs => by
  refine ⟨fun c => (Cert.KernelIdeal.Gen.dats m 0 c).arrAt 7 Cert.KernelIdeal.cfg0.N, Cert.KernelIdeal.Value.run_blocks m g,
    (θ_run Cert.ReferenceIdeal.defs _ _).mono (fun r h c => ⟨(h c).1.trans ?_, (h c).2⟩) (Cert.ReferenceIdeal.Value.run (F := Ideal) m' g')⟩
  obtain ⟨h0, h1, h2, h3, h4, h5, h6, h7⟩ := hargs c
  rw [Cert.ReferenceIdeal.Read.val_main_v80_eq, h0, h1, h2, h3, h4, h5, h6, h7]
  exact (reference_output (edge_words (hpre c))).trans (kernel_output m c).symm

/-- Every claim of the certificate. -/
theorem claim : Cert.Claim := ⟨Cert.Kernel.Gen.facts, Cert.KernelIdeal.Gen.facts, Cert.ReferenceIdeal.Gen.facts, Cert.Pre_complete_graph.Gen.facts,
  fun m g _ => Cert.Kernel.Gen.frame m g, fun m g _ => Cert.KernelIdeal.Gen.frame m g, fun m g _ => Cert.KernelIdeal.Gen.frame m g,
  reference_frame, fun m g _ => reference_frame m g trivial, trivial, algebraic⟩

end Cert.Proof

end
